-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1536x4096 : Shape := ⟨3, ![8, 1536, 4096]⟩
abbrev S8x1536 : Shape := ⟨2, ![8, 1536]⟩
abbrev S2048x4608 : Shape := ⟨2, ![2048, 4608]⟩
abbrev S32x4608 : Shape := ⟨2, ![32, 4608]⟩
abbrev S4608 : Shape := ⟨1, ![4608]⟩
abbrev S12288x4096 : Shape := ⟨2, ![12288, 4096]⟩
abbrev S1x4608 : Shape := ⟨2, ![1, 4608]⟩
abbrev S12288x4608 : Shape := ⟨2, ![12288, 4608]⟩
abbrev S512x4096 : Shape := ⟨2, ![512, 4096]⟩
abbrev S2048x1536 : Shape := ⟨2, ![2048, 1536]⟩
abbrev S32x1536 : Shape := ⟨2, ![32, 1536]⟩
abbrev S1x1536 : Shape := ⟨2, ![1, 1536]⟩
abbrev S512x1536 : Shape := ⟨2, ![512, 1536]⟩
abbrev S4096x1536 : Shape := ⟨2, ![4096, 1536]⟩
abbrev S64x1536 : Shape := ⟨2, ![64, 1536]⟩
abbrev S128x1536 : Shape := ⟨2, ![128, 1536]⟩
abbrev S1x512 : Shape := ⟨2, ![1, 512]⟩
abbrev S1x128 : Shape := ⟨2, ![1, 128]⟩
abbrev S128x128 : Shape := ⟨2, ![128, 128]⟩
abbrev S128x1 : Shape := ⟨2, ![128, 1]⟩
abbrev S512x1 : Shape := ⟨2, ![512, 1]⟩
abbrev S8x1536x4608 : Shape := ⟨3, ![8, 1536, 4608]⟩

abbrev nBuf : Space → Nat
  | .hbm => 10
  | .vmem => 15
  | .smem => 0
  | _ => 0

abbrev bufTy : (tb : Table) → Fin (tcTables nBuf tb) → BufTy
  | .hbm, ⟨0, _⟩ => ⟨S8x1536x4096, .i8⟩
  | .hbm, ⟨1, _⟩ => ⟨S8x1536, .f32⟩
  | .hbm, ⟨2, _⟩ => ⟨S2048x4608, .i8⟩
  | .hbm, ⟨3, _⟩ => ⟨S32x4608, .i8⟩
  | .hbm, ⟨4, _⟩ => ⟨S32x4608, .i8⟩
  | .hbm, ⟨5, _⟩ => ⟨S4608, .f32⟩
  | .hbm, ⟨6, _⟩ => ⟨S12288x4096, .i8⟩
  | .hbm, ⟨7, _⟩ => ⟨S1x4608, .f32⟩
  | .hbm, ⟨8, _⟩ => ⟨S12288x4608, .bf16⟩
  | .hbm, ⟨9, _⟩ => ⟨S8x1536x4608, .bf16⟩
  | .local _ .vmem, ⟨0, _⟩ => ⟨S512x4096, .i8⟩
  | .local _ .vmem, ⟨1, _⟩ => ⟨S512x4096, .i8⟩
  | .local _ .vmem, ⟨2, _⟩ => ⟨S8x1536, .f32⟩
  | .local _ .vmem, ⟨3, _⟩ => ⟨S2048x1536, .i8⟩
  | .local _ .vmem, ⟨4, _⟩ => ⟨S2048x1536, .i8⟩
  | .local _ .vmem, ⟨5, _⟩ => ⟨S32x1536, .i8⟩
  | .local _ .vmem, ⟨6, _⟩ => ⟨S32x1536, .i8⟩
  | .local _ .vmem, ⟨7, _⟩ => ⟨S32x1536, .i8⟩
  | .local _ .vmem, ⟨8, _⟩ => ⟨S32x1536, .i8⟩
  | .local _ .vmem, ⟨9, _⟩ => ⟨S1x1536, .f32⟩
  | .local _ .vmem, ⟨10, _⟩ => ⟨S1x1536, .f32⟩
  | .local _ .vmem, ⟨11, _⟩ => ⟨S512x1536, .bf16⟩
  | .local _ .vmem, ⟨12, _⟩ => ⟨S512x1536, .bf16⟩
  | .local _ .vmem, ⟨13, _⟩ => ⟨S4096x1536, .bf16⟩
  | .local _ .vmem, ⟨14, _⟩ => ⟨S512x4096, .bf16⟩
  | _, _ => ⟨S8x1536x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![3, 24], ![false, false]⟩

def k0_mult1 (i : grid0.Coords) : BitVec 32 :=
  let arg1 : BitVec 32 := BitVec.ofNat 32 (i 1).val
  let c3_i32_9 : BitVec 32 := 3#32
  let c0_i32_10 : BitVec 32 := 0#32
  let v26 : BitVec 1 := Scalar.cmpi .eq c3_i32_9 c0_i32_10
  let c1_i32_11 : BitVec 32 := 1#32
  let v27 : BitVec 32 := Scalar.select v26 c1_i32_11 c3_i32_9
  let v28 : BitVec 32 := Scalar.remsi arg1 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c512_i32 : BitVec 32 := 512#32
  let v36 : BitVec 32 := Scalar.muli v35 c512_i32
  v36
def k0_off1 (i : grid0.Coords) : Fin 2 → Nat :=
  let arg1 : BitVec 32 := BitVec.ofNat 32 (i 1).val
  let c0_i32_4 : BitVec 32 := 0#32
  let v10 : BitVec 1 := Scalar.cmpi .sgt arg1 c0_i32_4
  let v11 : BitVec 32 := Scalar.extui v10
  let c0_i32_5 : BitVec 32 := 0#32
  let v12 : BitVec 1 := Scalar.cmpi .slt arg1 c0_i32_5
  let v13 : BitVec 32 := Scalar.extui v12
  let v14 : BitVec 32 := Scalar.subi v11 v13
  let c3_i32 : BitVec 32 := 3#32
  let c0_i32_6 : BitVec 32 := 0#32
  let v15 : BitVec 1 := Scalar.cmpi .sgt c3_i32 c0_i32_6
  let v16 : BitVec 32 := Scalar.extui v15
  let c0_i32_7 : BitVec 32 := 0#32
  let v17 : BitVec 1 := Scalar.cmpi .slt c3_i32 c0_i32_7
  let v18 : BitVec 32 := Scalar.extui v17
  let v19 : BitVec 32 := Scalar.subi v16 v18
  let v20 : BitVec 1 := Scalar.cmpi .ne v14 v19
  let v21 : BitVec 32 := Scalar.remsi arg1 c3_i32
  let c0_i32_8 : BitVec 32 := 0#32
  let v22 : BitVec 1 := Scalar.cmpi .ne v21 c0_i32_8
  let v23 : BitVec 1 := Scalar.andi v20 v22
  let v9 : BitVec 32 := Scalar.divsi arg1 c3_i32
  let c1_i32 : BitVec 32 := 1#32
  let v24 : BitVec 32 := Scalar.subi v9 c1_i32
  let v25 : BitVec 32 := Scalar.select v23 v24 v9
  let v38 : Index := Scalar.indexCast v25
  let c3_i32_9 : BitVec 32 := 3#32
  let c0_i32_10 : BitVec 32 := 0#32
  let v26 : BitVec 1 := Scalar.cmpi .eq c3_i32_9 c0_i32_10
  let c1_i32_11 : BitVec 32 := 1#32
  let v27 : BitVec 32 := Scalar.select v26 c1_i32_11 c3_i32_9
  let v28 : BitVec 32 := Scalar.remsi arg1 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c512_i32 : BitVec 32 := 512#32
  let v36 : BitVec 32 := Scalar.muli v35 c512_i32
  let v37 : BitVec 32 := v36
  let v39 : Index := Scalar.indexCast v37
  ![v38.toNat, v39.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1536 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1536 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x1536x4096 : Shape := ⟨3, ![8, 1536, 4096]⟩
abbrev S8x1536 : Shape := ⟨2, ![8, 1536]⟩
abbrev S2048x4608 : Shape := ⟨2, ![2048, 4608]⟩
abbrev S32x4608 : Shape := ⟨2, ![32, 4608]⟩
abbrev S4608 : Shape := ⟨1, ![4608]⟩
abbrev S_ : Shape := ⟨0, ![]⟩
abbrev S2048x1x4608 : Shape := ⟨3, ![2048, 1, 4608]⟩
abbrev S2048x2x4608 : Shape := ⟨3, ![2048, 2, 4608]⟩
abbrev S4096x4608 : Shape := ⟨2, ![4096, 4608]⟩
abbrev S32x128x4608 : Shape := ⟨3, ![32, 128, 4608]⟩
abbrev S32x1x4608 : Shape := ⟨3, ![32, 1, 4608]⟩
abbrev S8x1536x4608 : Shape := ⟨3, ![8, 1536, 4608]⟩
abbrev S8x1536x1 : Shape := ⟨3, ![8, 1536, 1]⟩
abbrev S1x1x4608 : Shape := ⟨3, ![1, 1, 4608]⟩

abbrev nBuf : Space → Nat
  | .hbm => 40
  | .vmem => 0
  | .smem => 0
  | _ => 0

abbrev bufTy : (tb : Table) → Fin (tcTables nBuf tb) → BufTy
  | .hbm, ⟨0, _⟩ => ⟨S8x1536x4096, .i8⟩
  | .hbm, ⟨1, _⟩ => ⟨S8x1536, .f32⟩
  | .hbm, ⟨2, _⟩ => ⟨S2048x4608, .i8⟩
  | .hbm, ⟨3, _⟩ => ⟨S32x4608, .i8⟩
  | .hbm, ⟨4, _⟩ => ⟨S32x4608, .i8⟩
  | .hbm, ⟨5, _⟩ => ⟨S4608, .f32⟩
  | .hbm, ⟨6, _⟩ => ⟨S32x4608, .i32⟩
  | .hbm, ⟨7, _⟩ => ⟨S32x4608, .bf16⟩
  | .hbm, ⟨8, _⟩ => ⟨S32x4608, .i32⟩
  | .hbm, ⟨9, _⟩ => ⟨S32x4608, .bf16⟩
  | .hbm, ⟨10, _⟩ => ⟨S2048x4608, .i32⟩
  | .hbm, ⟨11, _⟩ => ⟨S_, .i32⟩
  | .hbm, ⟨12, _⟩ => ⟨S2048x4608, .i32⟩
  | .hbm, ⟨13, _⟩ => ⟨S2048x4608, .i32⟩
  | .hbm, ⟨14, _⟩ => ⟨S_, .i32⟩
  | .hbm, ⟨15, _⟩ => ⟨S2048x4608, .i32⟩
  | .hbm, ⟨16, _⟩ => ⟨S2048x4608, .i32⟩
  | .hbm, ⟨17, _⟩ => ⟨S2048x1x4608, .i32⟩
  | .hbm, ⟨18, _⟩ => ⟨S2048x1x4608, .i32⟩
  | .hbm, ⟨19, _⟩ => ⟨S2048x2x4608, .i32⟩
  | .hbm, ⟨20, _⟩ => ⟨S4096x4608, .i32⟩
  | .hbm, ⟨21, _⟩ => ⟨S4096x4608, .bf16⟩
  | .hbm, ⟨22, _⟩ => ⟨S32x128x4608, .bf16⟩
  | .hbm, ⟨23, _⟩ => ⟨S32x1x4608, .bf16⟩
  | .hbm, ⟨24, _⟩ => ⟨S32x128x4608, .bf16⟩
  | .hbm, ⟨25, _⟩ => ⟨S32x128x4608, .bf16⟩
  | .hbm, ⟨26, _⟩ => ⟨S32x1x4608, .bf16⟩
  | .hbm, ⟨27, _⟩ => ⟨S32x128x4608, .bf16⟩
  | .hbm, ⟨28, _⟩ => ⟨S32x128x4608, .bf16⟩
  | .hbm, ⟨29, _⟩ => ⟨S4096x4608, .bf16⟩
  | .hbm, ⟨30, _⟩ => ⟨S8x1536x4096, .i32⟩
  | .hbm, ⟨31, _⟩ => ⟨S8x1536x4096, .bf16⟩
  | .hbm, ⟨32, _⟩ => ⟨S8x1536x4608, .f32⟩
  | .hbm, ⟨33, _⟩ => ⟨S8x1536x1, .f32⟩
  | .hbm, ⟨34, _⟩ => ⟨S8x1536x4608, .f32⟩
  | .hbm, ⟨35, _⟩ => ⟨S8x1536x4608, .f32⟩
  | .hbm, ⟨36, _⟩ => ⟨S1x1x4608, .f32⟩
  | .hbm, ⟨37, _⟩ => ⟨S8x1536x4608, .f32⟩
  | .hbm, ⟨38, _⟩ => ⟨S8x1536x4608, .f32⟩
  | .hbm, ⟨39, _⟩ => ⟨S8x1536x4608, .bf16⟩
  | _, _ => ⟨S8x1536x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.Codes.lean ====
/-
  Hand-written, untrusted. THE ARITHMETIC OF ONE BYTE: a byte holds two 4-bit codes, the low half first; the kernel
  places a code in the trailing bits of a bf16 pattern whose value is 128 plus the code and subtracts 128, the
  reference masks or shifts the byte and converts it. Both give the code.
-/
module

public import Idealize.ShloMosaic.PureOps
public import Idealize.ShloMosaic.PureOps.Ideal.Laws

@[expose] public section

noncomputable section

namespace Cert.Proof.Codes

open Idealize.ShloMosaic

/-- The code a byte holds: its low four bits at an even position, its high four bits at an odd one. -/
def code (b : BitVec 8) (q : ℕ) : ℕ := if q = 0 then b.toNat % 16 else b.toNat / 16

/-- A code is under sixteen. -/
theorem code_lt (b : BitVec 8) (q : ℕ) : code b q < 16 := by
  unfold code; have := b.isLt; split <;> omega

/-- One entry of the expanded weight: the code times the group's scale, less the group's zero. -/
def weight (b : BitVec 8) (q : ℕ) (gs gz : BitVec 8) : EReal :=
  ((code b q : ℝ) : EReal) * ((gs.toNat : ℝ) : EReal) - ((gz.toNat : ℝ) : EReal)

/-- The word the kernel builds of a byte: each half holds `0x4300` and one of the two codes. -/
def word (b : BitVec 8) : BitVec 32 :=
  IntOp.ori (IntOp.ori (IntOp.andi (b.setWidth 32) 15#32) (IntOp.shli .vector (IntOp.andi (b.setWidth 32) 240#32) 12#32)) 1124090624#32

/-- Each half of the kernel's word is the pattern `0x4300` plus the code. -/
theorem word_half (b : BitVec 8) (q : ℕ) (hq : q < 2) :
    (word b).extractLsb' (16 * q) 16 = BitVec.ofNat 16 (0x4300 + code b q) := by
  have h : ∀ (b : BitVec 8) (q : Fin 2), (word b).extractLsb' (16 * q.val) 16 = BitVec.ofNat 16 (0x4300 + code b q.val) := by
    decide +kernel
  exact h b ⟨q, hq⟩

/-- The bf16 pattern `0x4300 + n` denotes `128 + n`, for `n` under sixteen. -/
theorem ofBits_code (n : ℕ) (hn : n < 16) : Ideal.ofBits .bf16 (BitVec.ofNat 16 (0x4300 + n)) = ((128 + n : ℝ) : EReal) := by
  interval_cases n <;> simp [Ideal.ofBits, Ideal.ieee, ← EReal.coe_add] <;> norm_num

/-- What the kernel decodes: the half word read as bf16, less 128, is the code. -/
theorem decode (b : BitVec 8) (q : ℕ) (hq : q < 2) :
    Ideal.ofBits .bf16 ((word b).extractLsb' (16 * q) 16) - Ideal.ofBits .bf16 0x4300#16 = ((code b q : ℝ) : EReal) := by
  rw [word_half b q hq, ofBits_code _ (code_lt b q), show Ideal.ofBits .bf16 0x4300#16 = ((128 + (0 : ℕ) : ℝ) : EReal) from ofBits_code 0 (by decide),
    ← EReal.coe_sub]
  congr 1; push_cast; ring

/-- A byte widened without its sign, read as a signed word, is its unsigned value. -/
theorem toInt_setWidth (b : BitVec 8) : ((b.setWidth 32).toInt : ℝ) = (b.toNat : ℝ) := by
  have h : ∀ b : BitVec 8, (b.setWidth 32).toInt = (b.toNat : ℤ) := by decide +kernel
  rw [h b]; norm_cast

/-- The reference's code at an even position: the byte masked. -/
theorem toInt_mask (b : BitVec 8) : ((IntOp.andi (b.setWidth 32) 15#32).toInt : ℝ) = (code b 0 : ℝ) := by
  have h : ∀ b : BitVec 8, (IntOp.andi (b.setWidth 32) 15#32).toInt = (code b 0 : ℤ) := by decide +kernel
  rw [h b]; norm_cast

/-- The reference's code at an odd position: the byte shifted. -/
theorem toInt_shift (b : BitVec 8) : ((IntOp.shrsi ArithUnit.host (b.setWidth 32) 4#32).toInt : ℝ) = (code b 1 : ℝ) := by
  have h : ∀ b : BitVec 8, (IntOp.shrsi ArithUnit.host (b.setWidth 32) 4#32).toInt = (code b 1 : ℤ) := by decide +kernel
  rw [h b]; norm_cast

end Cert.Proof.Codes
-- ==== Proof.Group.lean ====
/-
  Hand-written, untrusted. ONE GROUP OF 128 WEIGHT ROWS: the kernel expands sixty-four rows of bytes into 128 rows of
  weights, every group by the same steps. `group g` is those steps as one definition; `group_apply` reads it at an index.
-/
module

public import proofs.«01_k».proof.Proof.Codes
public import proofs.«01_k».proof.Proof.Gen.KernelIdeal.Skeleton
public import Idealize.ShloMosaic.Lib.Pointwise
public import Idealize.ShloMosaic.Lib.BitcastPair
public import Idealize.ShloMosaic.Lib.Pipeline.Value
public import Idealize.ShloMosaic.Lib.Pipeline.ValueKit.Tiles

@[expose] public section

set_option maxRecDepth 16384

noncomputable section

namespace Cert.Proof.Group

open Idealize.ShloMosaic Idealize.SL.Sem Cert.KernelIdeal Cert.KernelIdeal.Gen Idealize.ShloMosaic.TcCoe
open Cert.Proof.Codes

variable {F : FTy → Type} [FloatOps F]

/-- The kernel's words of sixty-four rows of bytes: in each half `0x4300` and one code. -/
def words (p : Vec F S64x1536 .i8) : IVec S64x1536 32 :=
  ori (ori (andi (extui 32 p natLt_8_32) (broadcast S64x1536 15#32))
    (shli (andi (extui 32 p natLt_8_32) (broadcast S64x1536 240#32)) (broadcast S64x1536 12#32))) (broadcast S64x1536 1124090624#32)

/-- Those words' halves as bf16 numbers, less 128. -/
def codes (p : Vec F S64x1536 .i8) : FVec F S128x1536 .bf16 :=
  subf (bitcastToFloat .bf16 (bitcast S128x1536 16 (words p) bitcasts_S64x1536_w32_S128x1536_w16))
    (broadcast S128x1536 (Scalar.ofBits .bf16 0x4300#16))

/-- The kernel's expansion of one group: from the scale rows, the zero rows and sixty-four rows of bytes. -/
def group (g : ℕ) (hs : S32x1536.Slices ![g, 0] S1x1536) (gs gz : FVec F S32x1536 .bf16) (p : Vec F S64x1536 .i8) :
    FVec F S128x1536 .bf16 :=
  shapeCast S128x1536
    (subf (mulf (codes p) (broadcastTo S128x1536 (extractStridedSlice S1x1536 ![g, 0] gs hs) broadcasts_S1x1536_S128x1536))
      (broadcastTo S128x1536 (extractStridedSlice S1x1536 ![g, 0] gz hs) broadcasts_S1x1536_S128x1536))
    shapeCasts_S128x1536_S128x1536

/-- The codes at row `r`: the code at position `r % 2` of byte row `r / 2`. -/
theorem codes_apply (p : Vec Ideal S64x1536 .i8) (r : Fin 128) (l : Fin 1536) :
    codes p (ix2 r l) = ((code (p (ix2 ⟨r.val / 2, by omega⟩ l)) (r.val % 2) : ℝ) : EReal) := by
  show Ideal.ofBits .bf16 (bitcast S128x1536 16 (words p) bitcasts_S64x1536_w32_S128x1536_w16 (ix2 r l)) - Ideal.ofBits .bf16 0x4300#16 = _
  rw [bitcast_32_16]
  refine (decode _ (r.val % 2) (Nat.mod_lt _ (by decide))).trans ?_
  congr 4
  funext a
  fin_cases a <;> rfl

/-- A group at row `r`, column `l`: the weight its byte, its scale and its zero give. -/
theorem group_apply (g : Fin 32) (hs : S32x1536.Slices ![g.val, 0] S1x1536) (gs gz : Vec Ideal S32x1536 .i8) (p : Vec Ideal S64x1536 .i8)
    (r : Fin 128) (l : Fin 1536) :
    group g.val hs (k0_pay2 gs) (k0_pay3 gz) p (ix2 r l)
      = weight (p (ix2 ⟨r.val / 2, by omega⟩ l)) (r.val % 2) (gs (ix2 g l)) (gz (ix2 g l)) := by
  pointwise [group, k0_pay2, k0_pay3]
  rw [codes_apply]
  show _ * (((BitVec.setWidth 32 (gs (ix2 g l))).toInt : ℝ) : EReal) - (((BitVec.setWidth 32 (gz (ix2 g l))).toInt : ℝ) : EReal) = _
  rw [toInt_setWidth, toInt_setWidth]
  rfl

/-- The expanded weight of one column block: row `k`, column `l` is the code at position `k % 2` of byte row `k / 2`,
    scaled and shifted by row `k / 128` of the scales and the zeros. -/
def weights (p : Vec Ideal S2048x1536 .i8) (gs gz : Vec Ideal S32x1536 .i8) : Vec Ideal S4096x1536 .bf16 := fun y =>
  weight (p (ix2 ⟨(y 0).val / 2, by have : (y 0).val < 4096 := (y 0).isLt; omega⟩ (y 1))) ((y 0).val % 2)
    (gs (ix2 ⟨(y 0).val / 128, by have : (y 0).val < 4096 := (y 0).isLt; omega⟩ (y 1)))
    (gz (ix2 ⟨(y 0).val / 128, by have : (y 0).val < 4096 := (y 0).isLt; omega⟩ (y 1)))

/-- Group `g`, computed of byte rows `64 g` onwards, is what `weights` holds at rows `128 g` onwards. -/
theorem group_piece (g o q : ℕ) (hg : g < 32) (ho : o = 128 * g) (hq : q = 64 * g) (hs : S32x1536.Slices ![g, 0] S1x1536)
    (inb0 inb0' : ∀ a, (![0, 0] : Fin 2 → ℕ) a + (![32, 1536] : Fin 2 → ℕ) a ≤ S32x1536.size a)
    (inbq : ∀ a, (![q, 0] : Fin 2 → ℕ) a + (![64, 1536] : Fin 2 → ℕ) a ≤ S2048x1536.size a)
    (inbo : ∀ a, (![o, 0] : Fin 2 → ℕ) a + (![128, 1536] : Fin 2 → ℕ) a ≤ S4096x1536.size a)
    (p : Vec Ideal S2048x1536 .i8) (gs gz : Vec Ideal S32x1536 .i8) (x : S128x1536.Idx) :
    group g hs (k0_pay2 (View.ld gs (Rect.unit (s := S32x1536) ![0, 0] ![32, 1536] inb0)))
        (k0_pay3 (View.ld gz (Rect.unit (s := S32x1536) ![0, 0] ![32, 1536] inb0')))
        (View.ld p (Rect.unit (s := S2048x1536) ![q, 0] ![64, 1536] inbq)) x
      = weights p gs gz ((Rect.unit (s := S4096x1536) ![o, 0] ![128, 1536] inbo).emb x) := by
  subst ho hq
  have hz : (![0, 0] : Fin 2 → ℕ) = fun _ => 0 := funext fun a => by fin_cases a <;> rfl
  have e3 : View.ld gs (Rect.unit (s := S32x1536) ![0, 0] ![32, 1536] inb0) = gs := View.ld_unit_zero (S := S32x1536) hz inb0 gs
  have e4 : View.ld gz (Rect.unit (s := S32x1536) ![0, 0] ![32, 1536] inb0') = gz := View.ld_unit_zero (S := S32x1536) hz inb0' gz
  rw [e3, e4]
  have hx0 : (x 0).val < 128 := (x 0).isLt
  have hx : x = ix2 (x 0) (x 1) := by funext a; fin_cases a <;> rfl
  have h0 : (((Rect.unit (s := S4096x1536) ![128 * g, 0] ![128, 1536] inbo).emb x) 0).val = 128 * g + (x 0).val := by
    show 128 * g + 1 * (x 0).val = _; omega
  have h1 : ((Rect.unit (s := S4096x1536) ![128 * g, 0] ![128, 1536] inbo).emb x) 1 = x 1 :=
    Fin.ext (by show 0 + 1 * (x 1).val = _; omega)
  have e2 : View.ld p (Rect.unit (s := S2048x1536) ![64 * g, 0] ![64, 1536] inbq) (ix2 ⟨(x 0).val / 2, by omega⟩ (x 1))
      = p (ix2 ⟨(128 * g + (x 0).val) / 2, by omega⟩ (x 1)) :=
    congrArg p (funext fun a => Fin.ext (by
      fin_cases a
      · show 64 * g + 1 * ((x 0).val / 2) = (128 * g + (x 0).val) / 2; omega
      · show 0 + 1 * (x 1).val = (x 1).val; omega))
  refine (congrArg _ hx).trans ((group_apply ⟨g, hg⟩ hs gs gz _ (x 0) (x 1)).trans ?_)
  unfold weights
  have a0 : (128 * g + (x 0).val) / 128 = g := by omega
  have a1 : (128 * g + (x 0).val) % 2 = (x 0).val % 2 := by omega
  simp only [h0, h1, a0, a1]
  exact congrArg (weight · _ _ _) e2

end Cert.Proof.Group
-- ==== Proof.Stored.lean ====
/-
  Hand-written, untrusted. THE THIRTY-TWO STORED PAYLOADS ARE ONE DEFINITION. The printed body expands the groups one after
  another and its payloads are cut at different places; each, put together, is `group g`, by unfolding. Theorem `stored_g`
  says so of group `g`.
-/
module

public import proofs.«01_k».proof.Proof.Group

@[expose] public section

set_option maxRecDepth 16384

noncomputable section

namespace Cert.Proof.Stored

open Idealize.ShloMosaic Idealize.SL.Sem Cert.KernelIdeal Cert.KernelIdeal.Gen Idealize.ShloMosaic.TcCoe
open Cert.Proof.Group

variable {F : FTy → Type} [FloatOps F]
variable (g z : Vec F S32x1536 .i8) (a b : FVec F S32x1536 .bf16) (p : Vec F S64x1536 .i8)

theorem stored_0 : k0_pay4 g z p = group 0 slices_S32x1536_o0_0_S1x1536 (k0_pay2 g) (k0_pay3 z) p := rfl
theorem stored_1 : k0_pay6 a b (k0_pay5 p) 1124090624#32 = group 1 slices_S32x1536_o1_0_S1x1536 a b p := rfl
theorem stored_2 : k0_pay7 a b p = group 2 slices_S32x1536_o2_0_S1x1536 a b p := rfl
theorem stored_3 : k0_pay11 a b (k0_pay8 p) (k0_pay9 p) k0_pay10 = group 3 slices_S32x1536_o3_0_S1x1536 a b p := rfl
theorem stored_4 : k0_pay12 a b p = group 4 slices_S32x1536_o4_0_S1x1536 a b p := rfl
theorem stored_5 : k0_pay13 a b p = group 5 slices_S32x1536_o5_0_S1x1536 a b p := rfl
theorem stored_6 : k0_pay15 (k0_pay14 a b p) = group 6 slices_S32x1536_o6_0_S1x1536 a b p := rfl
theorem stored_7 : k0_pay16 a b p = group 7 slices_S32x1536_o7_0_S1x1536 a b p := rfl
theorem stored_8 : k0_pay18 b (k0_pay17 a p) = group 8 slices_S32x1536_o8_0_S1x1536 a b p := rfl
theorem stored_9 : k0_pay19 a b p = group 9 slices_S32x1536_o9_0_S1x1536 a b p := rfl
theorem stored_10 : k0_pay21 a b (k0_pay20 p) = group 10 slices_S32x1536_o10_0_S1x1536 a b p := rfl
theorem stored_11 : k0_pay22 a b p = group 11 slices_S32x1536_o11_0_S1x1536 a b p := rfl
theorem stored_12 : k0_pay27 a b (k0_pay24 p) (k0_pay25 p) k0_pay26 = group 12 slices_S32x1536_o12_0_S1x1536 a b p := rfl
theorem stored_13 : k0_pay28 a b p = group 13 slices_S32x1536_o13_0_S1x1536 a b p := rfl
theorem stored_14 : k0_pay31 a b (k0_pay29 p) k0_pay30 = group 14 slices_S32x1536_o14_0_S1x1536 a b p := rfl
theorem stored_15 : k0_pay32 a b p = group 15 slices_S32x1536_o15_0_S1x1536 a b p := rfl
theorem stored_16 : k0_pay33 a b p = group 16 slices_S32x1536_o16_0_S1x1536 a b p := rfl
theorem stored_17 : k0_pay35 (k0_pay34 a b p) = group 17 slices_S32x1536_o17_0_S1x1536 a b p := rfl
theorem stored_18 : k0_pay36 a b p = group 18 slices_S32x1536_o18_0_S1x1536 a b p := rfl
theorem stored_19 : k0_pay38 a b (k0_pay37 p) = group 19 slices_S32x1536_o19_0_S1x1536 a b p := rfl
theorem stored_20 : k0_pay39 a b p = group 20 slices_S32x1536_o20_0_S1x1536 a b p := rfl
theorem stored_21 : k0_pay41 a b (k0_pay40 p) 1124090624#32 = group 21 slices_S32x1536_o21_0_S1x1536 a b p := rfl
theorem stored_22 : k0_pay42 a b p = group 22 slices_S32x1536_o22_0_S1x1536 a b p := rfl
theorem stored_23 : k0_pay46 a b (k0_pay43 p) (k0_pay44 p) k0_pay45 = group 23 slices_S32x1536_o23_0_S1x1536 a b p := rfl
theorem stored_24 : k0_pay47 a b p = group 24 slices_S32x1536_o24_0_S1x1536 a b p := rfl
theorem stored_25 : k0_pay48 a b p = group 25 slices_S32x1536_o25_0_S1x1536 a b p := rfl
theorem stored_26 : k0_pay50 (k0_pay49 a b p) = group 26 slices_S32x1536_o26_0_S1x1536 a b p := rfl
theorem stored_27 : k0_pay51 a b p = group 27 slices_S32x1536_o27_0_S1x1536 a b p := rfl
theorem stored_28 : k0_pay53 b (k0_pay52 a p) = group 28 slices_S32x1536_o28_0_S1x1536 a b p := rfl
theorem stored_29 : k0_pay54 a b p = group 29 slices_S32x1536_o29_0_S1x1536 a b p := rfl
theorem stored_30 : k0_pay56 a b (k0_pay55 p) = group 30 slices_S32x1536_o30_0_S1x1536 a b p := rfl
theorem stored_31 : k0_pay58 (k0_pay57 a b p) = group 31 slices_S32x1536_o31_0_S1x1536 a b p := rfl

end Cert.Proof.Stored
-- ==== Proof.Payload.lean ====
/-
  Hand-written, untrusted. THE OUTPUT PAYLOAD AT AN INDEX: one row of 512 row scales is turned into a column, 128 lanes at
  a time, and the product of codes and weights is scaled by that column and by the row of column scales.
-/
module

public import proofs.«01_k».proof.Proof.Gen.KernelIdeal.Skeleton
public import Idealize.ShloMosaic.Lib.Pointwise

@[expose] public section

set_option maxRecDepth 16384

noncomputable section

namespace Cert.Proof.Payload

open Idealize.ShloMosaic Idealize.SL.Sem Cert.KernelIdeal Cert.KernelIdeal.Gen Idealize.ShloMosaic.TcCoe

/-- The payload at row `r`, column `l`: the product of row `r` of the codes and column `l` of the weights, times the row's
    scale, times the column's. -/
theorem pay1_apply (s : Vec Ideal S1x512 .f32) (x : Vec Ideal S512x4096 .bf16) (w : Vec Ideal S4096x1536 .bf16)
    (t : Vec Ideal S1x1536 .f32) (r : Fin 512) (l : Fin 1536) :
    k0_pay1 s x w t (ix2 r l) = (∑ k : Fin 4096, x (ix2 r k) * w (ix2 k l)) * s (ix2 0 r) * t (ix2 0 l) := by
  pointwise [k0_pay1]
  congr 2
  split_ifs <;> first | rfl | exact congrArg (fun n => s (ix2 0 n)) (Fin.ext (by dsimp only; omega))

/-- The codes of `x` at an index: the signed byte. -/
theorem pay59_apply (x : Vec Ideal S512x4096 .i8) (y : S512x4096.Idx) : k0_pay59 x y = (((x y).toInt : ℝ) : EReal) := by
  pointwise [k0_pay59]
  rfl

end Cert.Proof.Payload
-- ==== Proof.Point.lean ====
/-
  Hand-written, untrusted. WHAT ONE GRID POINT COMPUTES. At a point that expands the weight (case A) the scratch ends
  holding `weights` of the three weight blocks, and the output block is the body's one payload of the row scales, the
  codes of `x`, those weights and the column scales; at another point (case B) the payload reads the carried scratch.
-/
module

public import proofs.«01_k».proof.Proof.Stored
public import proofs.«01_k».proof.Proof.Payload
public import proofs.«01_k».proof.Proof.Gen.KernelIdeal.Frame

@[expose] public section

set_option maxRecDepth 16384

noncomputable section

namespace Cert.Proof.Point

open Idealize.ShloMosaic Idealize.SL.Sem Cert.KernelIdeal Cert.KernelIdeal.Gen Idealize.ShloMosaic.TcCoe
open Cert.Proof.Group Cert.Proof.Stored Cert.Proof.Payload

variable (c : Dev nD) (i : grid0.Coords)
  (arg2 : Memref sig .tc .vmem S512x4096 .i8) (harg2 : arg2.IsWhole)
  (arg3 : Memref sig .tc .vmem S8x1536 .f32) (harg3 : arg3.IsWhole)
  (arg4 : Memref sig .tc .vmem S2048x1536 .i8) (harg4 : arg4.IsWhole)
  (arg5 : Memref sig .tc .vmem S32x1536 .i8) (harg5 : arg5.IsWhole)
  (arg6 : Memref sig .tc .vmem S32x1536 .i8) (harg6 : arg6.IsWhole)
  (arg7 : Memref sig .tc .vmem S1x1536 .f32) (harg7 : arg7.IsWhole)
  (arg8 : Memref sig .tc .vmem S512x1536 .bf16) (harg8 : arg8.IsWhole)
  (arg9 : Memref sig .tc .vmem S4096x1536 .bf16) (harg9 : arg9.IsWhole)
  (arg10 : Memref sig .tc .vmem S512x4096 .bf16) (harg10 : arg10.IsWhole)
  (x0 : Vec Ideal S512x4096 .i8) (x1 : Vec Ideal S8x1536 .f32) (x2 : Vec Ideal S2048x1536 .i8)
  (x3 : Vec Ideal S32x1536 .i8) (x4 : Vec Ideal S32x1536 .i8) (x5 : Vec Ideal S1x1536 .f32)

/-- Every piece a point of case A stores into the scratch holds the weights of its rows: one lemma for the 32 groups. -/
theorem pieces_A (hc0 : cond0_0 i) :
    ∀ pc ∈ (kernelRun0_A (F := Ideal) c i arg2 harg2 arg3 harg3 arg4 harg4 arg5 harg5 arg6 harg6 arg7 harg7 arg8 harg8 arg9 harg9 arg10 harg10 hc0 x0 x1 x2 x3 x4 x5).2.1,
      ∀ x : pc.1.shape.Idx, pc.2 x = weights x2 x3 x4 (pc.1.emb x) := by
  unfold kernelRun0_A
  dsimp only
  sl_unfold_words
  simp only [View.readAt_eq_ld, harg4.read_unread, harg5.read_unread, harg6.read_unread,
    stored_0, stored_1, stored_2, stored_3, stored_4, stored_5, stored_6, stored_7, stored_8, stored_9, stored_10, stored_11, stored_12, stored_13, stored_14, stored_15, stored_16, stored_17, stored_18, stored_19, stored_20, stored_21, stored_22, stored_23, stored_24, stored_25, stored_26, stored_27, stored_28, stored_29, stored_30, stored_31]
  iterate 32
    refine List.forall_mem_cons.mpr ⟨fun x => ?_, ?_⟩
    · dsimp only
      refine group_piece _ _ _ ?_ ?_ ?_ _ _ _ _ _ x2 x3 x4 x
      · decide
      · rfl
      · rfl
  exact fun _ h => absurd h List.not_mem_nil

/-- Case A leaves the expanded weights in the scratch. -/
theorem scratch_A (hc0 : cond0_0 i) : sout0_A_0 (F := Ideal) c i arg2 harg2 arg3 harg3 arg4 harg4 arg5 harg5 arg6 harg6 arg7 harg7 arg8 harg8 arg9 harg9 arg10 harg10 hc0 x0 x1 x2 x3 x4 x5 = weights x2 x3 x4 := by
  unfold sout0_A_0
  rw [View.read_writes_junk_eq_canon]
  funext y
  exact View.canon_apply_of_pieces (weights x2 x3 x4) _ (pieces_A c i arg2 harg2 arg3 harg3 arg4 harg4 arg5 harg5 arg6 harg6 arg7 harg7 arg8 harg8 arg9 harg9 arg10 harg10 x0 x1 x2 x3 x4 x5 hc0) y (scover0_A_0 c i arg2 harg2 arg3 harg3 arg4 harg4 arg5 harg5 arg6 harg6 arg7 harg7 arg8 harg8 arg9 harg9 arg10 harg10 hc0 x0 x1 x2 x3 x4 x5 y)

/-- One entry of an output block at row block `j`: row `r` of the codes against column `l` of the weights `w`, times the scale
    of the batch row that row is, times the scale of the column. -/
def entry (j : Fin 24) (x0 : Vec Ideal S512x4096 .i8) (x1 : Vec Ideal S8x1536 .f32) (w : Vec Ideal S4096x1536 .bf16)
    (x5 : Vec Ideal S1x1536 .f32) (r : Fin 512) (l : Fin 1536) : EReal :=
  (∑ k : Fin 4096, (((x0 (ix2 r k)).toInt : ℝ) : EReal) * w (ix2 k l))
    * x1 (ix2 ⟨j.val / 3, by omega⟩ ⟨j.val % 3 * 512 + r.val, by omega⟩) * x5 (ix2 0 l)

theorem zeros : (![0, 0] : Fin 2 → ℕ) = fun _ => 0 := funext fun a => by fin_cases a <;> rfl

/-- The payload at an index is the entry, when the row scales are loaded from the row and the lane that row block has. -/
theorem pay_entry (j : Fin 24) (o0 o1 : ℕ) (h0 : o0 = j.val / 3) (h1 : o1 = j.val % 3 * 512)
    (inb : ∀ a, (![o0, o1] : Fin 2 → ℕ) a + (![1, 512] : Fin 2 → ℕ) a ≤ S8x1536.size a) (w : Vec Ideal S4096x1536 .bf16)
    (r : Fin 512) (l : Fin 1536) :
    k0_pay1 (View.ld x1 (Rect.unit (s := S8x1536) ![o0, o1] ![1, 512] inb)) (k0_pay59 x0) w x5 (ix2 r l) = entry j x0 x1 w x5 r l := by
  subst h0 h1
  refine (pay1_apply _ _ _ _ r l).trans ?_
  have e : View.ld x1 (Rect.unit (s := S8x1536) ![j.val / 3, j.val % 3 * 512] ![1, 512] inb) (ix2 0 r)
      = x1 (ix2 ⟨j.val / 3, by omega⟩ ⟨j.val % 3 * 512 + r.val, by omega⟩) :=
    congrArg x1 (funext fun a => Fin.ext (by
      fin_cases a
      · show j.val / 3 + 1 * 0 = j.val / 3; omega
      · show j.val % 3 * 512 + 1 * r.val = j.val % 3 * 512 + r.val; omega))
  unfold entry
  rw [e]
  congr 3
  funext k
  rw [pay59_apply]

/-- A point of case A writes the entries of its block, over the weights it expands. -/
theorem out_A (hc0 : cond0_0 i) (r : Fin 512) (l : Fin 1536) :
    out0_A_6 (F := Ideal) c i arg2 harg2 arg3 harg3 arg4 harg4 arg5 harg5 arg6 harg6 arg7 harg7 arg8 harg8 arg9 harg9 arg10 harg10 hc0 x0 x1 x2 x3 x4 x5 (ix2 r l)
      = entry (i 1) x0 x1 (weights x2 x3 x4) x5 r l := by
  have hs : arg9.view.readCov (kernelRun0_A (F := Ideal) c i arg2 harg2 arg3 harg3 arg4 harg4 arg5 harg5 arg6 harg6 arg7 harg7 arg8 harg8 arg9 harg9 arg10 harg10 hc0 x0 x1 x2 x3 x4 x5).2.1
      (Rect.unit (s := S4096x1536) ![0, 0] S4096x1536.size inb_S4096x1536_S4096x1536_0_0).toLoadRect = weights x2 x3 x4 := by
    rw [View.readCov_eq_canon']
    funext y
    refine (View.canon_apply_of_pieces (weights x2 x3 x4) _ (pieces_A c i arg2 harg2 arg3 harg3 arg4 harg4 arg5 harg5 arg6 harg6 arg7 harg7 arg8 harg8 arg9 harg9 arg10 harg10 x0 x1 x2 x3 x4 x5 hc0) _
      (scover0_A_0 c i arg2 harg2 arg3 harg3 arg4 harg4 arg5 harg5 arg6 harg6 arg7 harg7 arg8 harg8 arg9 harg9 arg10 harg10 hc0 x0 x1 x2 x3 x4 x5 _)).trans ?_
    exact congrFun (View.ld_unit_zero (S := S4096x1536) zeros inb_S4096x1536_S4096x1536_0_0 (weights x2 x3 x4)) y
  revert hs
  unfold out0_A_6
  rw [View.read_writes_junk_eq_canon]
  unfold kernelRun0_A
  dsimp only
  sl_unfold_words
  simp only [View.readAt_eq_ld, harg2.read_unread, harg3.read_unread, harg4.read_unread, harg5.read_unread, harg6.read_unread, harg7.read_unread]
  intro hs
  rw [View.canon_unit_zero (S := S512x1536) zeros]
  rw [View.readCov_unit_zero (S := S512x4096) _ zeros, hs, View.ld_unit_zero (S := S1x1536) zeros, View.ld_unit_zero (S := S512x4096) zeros]
  refine pay_entry x0 x1 x5 (i 1) _ _ ?_ ?_ _ _ r l
  · generalize i 1 = j
    revert j
    show ∀ j : Fin 24, _
    decide +kernel
  · generalize i 1 = j
    revert j
    show ∀ j : Fin 24, _
    decide +kernel

/-- A point of case B writes the entries of its block, over the weights the scratch carries. -/
theorem out_B (hc0 : ¬cond0_0 i) (xs0 : Vec Ideal S4096x1536 .bf16) (r : Fin 512) (l : Fin 1536) :
    out0_B_6 (F := Ideal) c i arg2 harg2 arg3 harg3 arg4 harg4 arg5 harg5 arg6 harg6 arg7 harg7 arg8 harg8 arg9 harg9 arg10 harg10 hc0 x0 x1 x2 x3 x4 x5 xs0 (ix2 r l)
      = entry (i 1) x0 x1 xs0 x5 r l := by
  unfold out0_B_6
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg9.read_unread]
  rw [View.canon_unit_zero (S := S512x1536) zeros]
  rw [View.readCov_unit_zero (S := S512x4096) _ zeros, View.ld_unit_zero (S := S4096x1536) zeros, View.ld_unit_zero (S := S1x1536) zeros, View.ld_unit_zero (S := S512x4096) zeros]
  refine pay_entry x0 x1 x5 (i 1) _ _ ?_ ?_ _ _ r l
  · generalize i 1 = j
    revert j
    show ∀ j : Fin 24, _
    decide +kernel
  · generalize i 1 = j
    revert j
    show ∀ j : Fin 24, _
    decide +kernel

end Cert.Proof.Point
-- ==== Proof.Blocks.lean ====
/-
  Hand-written, untrusted. WHICH PART OF WHICH ARGUMENT EACH BLOCK IS. Grid point `t` works on row block `t % 24` (512 rows of
  the flattened batch) and column block `t / 24` (1536 columns); each theorem reads one input block at an index.
-/
module

public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

noncomputable section

namespace Cert.Proof.Blocks

open Idealize.ShloMosaic Idealize.SL.Sem Cert.KernelIdeal Cert.KernelIdeal.Gen Idealize.ShloMosaic.TcCoe

variable {F : FTy → Type} [FloatOps F]
variable (m : (ℓ : Loc nD τ sig) → Buf (Elt F) ℓ)

/-- Every window's block index at every grid point. -/
theorem idx : ∀ t : Fin cfg0.N, win0_0.index t = ![t.val % 24, 0] ∧ win0_1.index t = ![0, 0] ∧ win0_2.index t = ![0, t.val / 24]
    ∧ win0_3.index t = ![0, t.val / 24] ∧ win0_4.index t = ![0, t.val / 24] ∧ win0_5.index t = ![0, t.val / 24]
    ∧ win0_6.index t = ![t.val % 24, t.val / 24] :=
  (by decide +kernel : ∀ t : Fin grid0.N, win0_0.index t = ![t.val % 24, 0] ∧ win0_1.index t = ![0, 0] ∧ win0_2.index t = ![0, t.val / 24]
    ∧ win0_3.index t = ![0, t.val / 24] ∧ win0_4.index t = ![0, t.val / 24] ∧ win0_5.index t = ![0, t.val / 24]
    ∧ win0_6.index t = ![t.val % 24, t.val / 24])

/-- The second grid coordinate is the row block. -/
theorem coord1 : ∀ t : Fin cfg0.N, (grid0.coords t 1).val = t.val % 24 :=
  (by decide +kernel : ∀ t : Fin grid0.N, (grid0.coords t 1).val = t.val % 24)

theorem lt72 (t : Fin cfg0.N) : t.val < 72 := Nat.lt_of_lt_of_eq t.isLt N_0

/-- What the flattened array of codes holds when the tiled region starts. -/
theorem V_main_v0 (c : Dev nD) : V m c main_v0
    = shapeCast (s := S8x1536x4096) S12288x4096 (m ((c : Thread nD τ).loc main_arg0)) shapeCasts_S8x1536x4096_S12288x4096 := by
  show StableHlo.after hostOps0 _ _ = _
  entry_read
  all_goals rfl

/-- What the column scales, laid out as one row, hold when the tiled region starts. -/
theorem V_main_v1 (c : Dev nD) : V m c main_v1
    = shapeCast (s := S4608) S1x4608 (m ((c : Thread nD τ).loc main_arg5)) shapeCasts_S4608_S1x4608 := by
  show StableHlo.after hostOps0 _ _ = _
  entry_read
  all_goals rfl

/-- Block of the codes of `x`: row `r` of row block `t % 24` is row `(512 (t % 24) + r) % 1536` of batch entry
    `(512 (t % 24) + r) / 1536`. -/
theorem blk0 (c : Dev nD) (t : Fin cfg0.N) (r : Fin 512) (k : Fin 4096) :
    iblk m c 0 t (ix2 r k : S512x4096.Idx) = m ((c : Thread nD τ).loc main_arg0)
      (ix3 ⟨(t.val % 24 * 512 + r.val) / 1536, by omega⟩ ⟨(t.val % 24 * 512 + r.val) % 1536, by omega⟩ k : S8x1536x4096.Idx) := by
  blk_simp [iblk, idx t]
  rw [V_main_v0]
  pointwise
  blk_ext [idx t]

/-- Block of the row scales: the whole array. -/
theorem blk1 (c : Dev nD) (t : Fin cfg0.N) (b : Fin 8) (s : Fin 1536) :
    iblk m c 1 t (ix2 b s : S8x1536.Idx) = m ((c : Thread nD τ).loc main_arg1) (ix2 b s : S8x1536.Idx) := by
  blk_ext! [iblk, idx t]

/-- Block of the packed weights: column block `t / 24`. -/
theorem blk2 (c : Dev nD) (t : Fin cfg0.N) (k : Fin 2048) (l : Fin 1536) :
    iblk m c 2 t (ix2 k l : S2048x1536.Idx) = m ((c : Thread nD τ).loc main_arg2)
      (ix2 k ⟨t.val / 24 * 1536 + l.val, by have := lt72 t; omega⟩ : S2048x4608.Idx) := by
  blk_ext! [iblk, idx t]

/-- Block of the group scales: column block `t / 24`. -/
theorem blk3 (c : Dev nD) (t : Fin cfg0.N) (g : Fin 32) (l : Fin 1536) :
    iblk m c 3 t (ix2 g l : S32x1536.Idx) = m ((c : Thread nD τ).loc main_arg3)
      (ix2 g ⟨t.val / 24 * 1536 + l.val, by have := lt72 t; omega⟩ : S32x4608.Idx) := by
  blk_ext! [iblk, idx t]

/-- Block of the group zeros: column block `t / 24`. -/
theorem blk4 (c : Dev nD) (t : Fin cfg0.N) (g : Fin 32) (l : Fin 1536) :
    iblk m c 4 t (ix2 g l : S32x1536.Idx) = m ((c : Thread nD τ).loc main_arg4)
      (ix2 g ⟨t.val / 24 * 1536 + l.val, by have := lt72 t; omega⟩ : S32x4608.Idx) := by
  blk_ext! [iblk, idx t]

/-- Block of the column scales: column block `t / 24`. -/
theorem blk5 (c : Dev nD) (t : Fin cfg0.N) (l : Fin 1536) :
    iblk m c 5 t (ix2 0 l : S1x1536.Idx) = m ((c : Thread nD τ).loc main_arg5)
      (ix1 ⟨t.val / 24 * 1536 + l.val, by have := lt72 t; omega⟩ : S4608.Idx) := by
  blk_simp [iblk, idx t]
  rw [V_main_v1]
  pointwise
  blk_ext [idx t]

end Cert.Proof.Blocks
-- ==== Proof.Spec.lean ====
/-
  Hand-written, untrusted. THE VALUE BOTH PROGRAMS COMPUTE, entry by entry, of the six arguments.
-/
module

public import proofs.«01_k».proof.Proof.Codes
public import proofs.«01_k».proof.KernelIdeal
public import Idealize.ShloMosaic.Lib.Pointwise

@[expose] public section

set_option maxRecDepth 16384

noncomputable section

namespace Cert.Proof.Spec

open Idealize.ShloMosaic Cert.KernelIdeal Cert.Proof.Codes

variable (X : Vec Ideal S8x1536x4096 .i8) (S : Vec Ideal S8x1536 .f32) (P : Vec Ideal S2048x4608 .i8)
  (GS GZ : Vec Ideal S32x4608 .i8) (C : Vec Ideal S4608 .f32)

/-- The expanded weight at row `k`, column `n`: the code at position `k % 2` of byte row `k / 2`, scaled and shifted by row
    `k / 128` of the group scales and the group zeros. -/
def col (k : Fin 4096) (n : Fin 4608) : EReal :=
  weight (P (ix2 ⟨k.val / 2, by omega⟩ n)) (k.val % 2) (GS (ix2 ⟨k.val / 128, by omega⟩ n)) (GZ (ix2 ⟨k.val / 128, by omega⟩ n))

/-- One entry of the result: row `(b, s)` of the codes against column `n` of the expanded weight, times the scale of the row,
    times the scale of the column. -/
def value (b : Fin 8) (s : Fin 1536) (n : Fin 4608) : EReal :=
  (∑ k : Fin 4096, (((X (ix3 b s k)).toInt : ℝ) : EReal) * col P GS GZ k n) * S (ix2 b s) * C (ix1 n)

/-- The result with batch and sequence flattened, as the tiled region writes it. -/
def flat : Vec Ideal S12288x4608 .bf16 := fun y =>
  value X S P GS GZ C ⟨(y 0).val / 1536, by have : (y 0).val < 12288 := (y 0).isLt; omega⟩ ⟨(y 0).val % 1536, by omega⟩ (y 1)

/-- The result in its three axes. -/
def result : Vec Ideal S8x1536x4608 .bf16 := fun y => value X S P GS GZ C (y 0) (y 1) (y 2)

/-- The flattened result at row `r`, column `n`. -/
theorem flat_apply (r : Fin 12288) (n : Fin 4608) (b : Fin 8) (s : Fin 1536) (hb : r.val / 1536 = b.val) (hs : r.val % 1536 = s.val) :
    flat X S P GS GZ C (ix2 r n : S12288x4608.Idx) = value X S P GS GZ C b s n := by
  obtain ⟨b, hb'⟩ := b
  obtain ⟨s, hs'⟩ := s
  subst hb hs
  rfl

/-- Laying the flattened result out in three axes gives the result. -/
theorem shapeCast_flat (h : S12288x4608.ShapeCasts S8x1536x4608) :
    shapeCast S8x1536x4608 (flat X S P GS GZ C) h = result X S P GS GZ C := by
  funext y
  obtain ⟨b, s, n, rfl⟩ : ∃ (b : Fin 8) (s : Fin 1536) (n : Fin 4608), y = ix3 b s n :=
    ⟨y 0, y 1, y 2, funext fun a => by fin_cases a <;> rfl⟩
  pointwise
  exact flat_apply X S P GS GZ C _ n b s (by dsimp only; omega) (by dsimp only; omega)

end Cert.Proof.Spec
-- ==== Proof.Array.lean ====
/-
  Hand-written, untrusted. WHAT THE OUTPUT ARRAY HOLDS AFTER ALL GRID POINTS. The scratch carries the expanded weights of the
  column block from one row block to the next; each point writes the flattened result's entries of its block; the blocks
  cover the array.
-/
module

public import proofs.«01_k».proof.Proof.Point
public import proofs.«01_k».proof.Proof.Blocks
public import proofs.«01_k».proof.Proof.Spec

@[expose] public section

set_option maxRecDepth 16384

noncomputable section

namespace Cert.Proof.Array

open Idealize.ShloMosaic Idealize.SL.Sem Cert.KernelIdeal Cert.KernelIdeal.Gen Idealize.ShloMosaic.TcCoe
open Cert.Proof.Group Cert.Proof.Codes Cert.Proof.Spec Cert.Proof.Blocks

variable (m : (ℓ : Loc nD τ sig) → Buf (Elt Ideal) ℓ) (c : Dev nD)

/-- The flattened result of the arguments as launched. -/
abbrev G : Vec Ideal S12288x4608 .bf16 :=
  flat (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The expanded weights of column block `j`. -/
def tile (j : ℕ) (hj : j < 3) : Vec Ideal S4096x1536 .bf16 := fun y =>
  col (m ((c : Thread nD τ).loc main_arg2)) (m ((c : Thread nD τ).loc main_arg3)) (m ((c : Thread nD τ).loc main_arg4))
    (y 0) ⟨j * 1536 + (y 1).val, by have : (y 1).val < 1536 := (y 1).isLt; omega⟩

/-- `tile` depends on the column block alone. -/
theorem tile_congr (j j' : ℕ) (hj : j < 3) (hj' : j' < 3) (e : j = j') : tile m c j hj = tile m c j' hj' := by
  subst e; rfl

theorem div_lt (t : Fin cfg0.N) : t.val / 24 < 3 := by have := lt72 t; omega

/-- The weights a point's blocks expand to are those of its column block. -/
theorem weights_blk (t : Fin cfg0.N) :
    weights (iblk m c 2 t) (iblk m c 3 t) (iblk m c 4 t) = tile m c (t.val / 24) (div_lt t) := by
  funext y
  unfold weights
  rw [blk2 m c t _ (y 1), blk3 m c t _ (y 1), blk4 m c t _ (y 1)]
  rfl

/-- A point that expands the weight leaves the weights of its column block in the scratch. -/
theorem scratch_first (t : Fin cfg0.N) (h0 : t.val % 24 = 0) :
    (outsAt0 m c t.val t.isLt).2 = tile m c (t.val / 24) (div_lt t) := by
  rw [outsAt0_A m c t h0]
  dsimp only
  rw [Point.scratch_A]
  exact weights_blk m c t

/-- After every point the scratch holds the weights of the point's column block. -/
theorem scratch (n : ℕ) (hn : n < cfg0.N) : (outsAt0 m c n hn).2 = tile m c (n / 24) (div_lt ⟨n, hn⟩) := by
  induction n with
  | zero => exact scratch_first m c ⟨0, hn⟩ rfl
  | succ n ih =>
    by_cases h0 : (n + 1) % 24 = 0
    · exact scratch_first m c ⟨n + 1, hn⟩ h0
    · refine (congrArg Prod.snd (outsAt0_B m c ⟨n + 1, hn⟩ h0)).trans ?_
      exact (ih (Nat.lt_of_succ_lt hn)).trans (tile_congr m c _ _ _ _ (by omega))

/-- Whichever case a point is, it writes the entries of its block over the weights of its column block. -/
theorem out_entry (t : Fin cfg0.N) (r : Fin 512) (l : Fin 1536) :
    (outsAt0 m c t.val t.isLt).1 (ix2 r l)
      = Point.entry (grid0.coords t 1) (iblk m c 0 t) (iblk m c 1 t) (tile m c (t.val / 24) (div_lt t)) (iblk m c 5 t) r l := by
  by_cases h0 : t.val % 24 = 0
  · rw [outsAt0_A m c t h0]
    dsimp only
    rw [Point.out_A, weights_blk]
  · rw [outsAt0_B m c t h0]
    dsimp only
    rw [Point.out_B, scratch, tile_congr m c _ (t.val / 24) _ (div_lt t) (by omega)]

/-- An entry of a point's block is the flattened result's entry at its place in the array. -/
theorem entry_eq (t : Fin cfg0.N) (r : Fin 512) (l : Fin 1536) :
    Point.entry (grid0.coords t 1) (iblk m c 0 t) (iblk m c 1 t) (tile m c (t.val / 24) (div_lt t)) (iblk m c 5 t) r l
      = G m c (ix2 ⟨t.val % 24 * 512 + r.val, by omega⟩ ⟨t.val / 24 * 1536 + l.val, by have := div_lt t; omega⟩ : S12288x4608.Idx) := by
  have e := coord1 t
  have h1 : iblk m c 1 t (ix2 ⟨(grid0.coords t 1).val / 3, by omega⟩ ⟨(grid0.coords t 1).val % 3 * 512 + r.val, by omega⟩ : S8x1536.Idx)
      = m ((c : Thread nD τ).loc main_arg1) (ix2 ⟨(t.val % 24 * 512 + r.val) / 1536, by omega⟩
          ⟨(t.val % 24 * 512 + r.val) % 1536, by omega⟩ : S8x1536.Idx) := by
    rw [blk1]
    refine congrArg _ ?_
    congr 1
    · exact Fin.ext (by dsimp only; omega)
    · exact Fin.ext (by dsimp only; omega)
  refine Eq.trans ?_ (flat_apply _ _ _ _ _ _ _ _ ⟨(t.val % 24 * 512 + r.val) / 1536, by omega⟩
    ⟨(t.val % 24 * 512 + r.val) % 1536, by omega⟩ rfl rfl).symm
  unfold Point.entry value
  refine congrArg₂ (· * ·) (congrArg₂ (· * ·) (Finset.sum_congr rfl fun k _ => ?_) h1) (blk5 m c t l)
  rw [blk0]
  rfl

/-- The output array after all grid points is the flattened result. -/
theorem array : (dats m 0 c).arrAt 6 cfg0.N = G m c := by
  refine (dats m 0 c).arrAt_eq_of_covers 6 _ (by decide +kernel) fun t hf y => ?_
  blk_simp
  rw [after0_6]
  obtain ⟨r, l, rfl⟩ : ∃ (r : Fin 512) (l : Fin 1536), y = (ix2 r l : S512x1536.Idx) :=
    ⟨y 0, y 1, funext fun a => by fin_cases a <;> rfl⟩
  refine (out_entry m c t r l).trans ((entry_eq m c t r l).trans ?_)
  generalize G m c = g
  blk_ext [idx t]

end Cert.Proof.Array
-- ==== Proof.Run.lean ====
/-
  Hand-written, untrusted. WHAT THE KERNEL'S PROGRAM LEAVES: its result array holds the result, laid out in three axes by the
  host operation that follows the tiled region, and its arguments are as launched.
-/
module

public import proofs.«01_k».proof.Proof.Array

@[expose] public section

set_option maxRecDepth 16384

noncomputable section

namespace Cert.Proof.Run

open Idealize.ShloMosaic Idealize.SL.Sem Cert.KernelIdeal Cert.KernelIdeal.Gen Idealize.ShloMosaic.TcCoe
open Cert.Proof.Spec Cert.Proof.Array

variable (m : (ℓ : Loc nD τ sig) → Buf (Elt Ideal) ℓ) (ρ : Dev nD → PrngReg)

/-- The host operation after the region lays the region's output out in three axes. -/
theorem tail (c : Dev nD) : Pipeline.afterTail₀ cfgs (dats m) 0 (V0 m) [hostOps1] c main_v3
    = shapeCast S8x1536x4608 (G m c) shapeCasts_S12288x4608_S8x1536x4608 := by
  unfold Pipeline.afterTail₀
  have e := (Pipeline.withArrays_arr (cfgs 0).spec (by decide) c (V0 m c) (fun w => (dats m 0 c).arrAt w (cfgs 0).N) 6).trans (array m c)
  show StableHlo.after hostOps1 _ _ = _
  generalize Pipeline.withArrays (cfgs 0).spec c (V0 m c) (fun w => (dats m 0 c).arrAt w (cfgs 0).N) = W at e ⊢
  rw [← e]
  after_results_simp
  all_goals rfl

/-- The kernel's program from any launch: the result, and the arguments unchanged. -/
theorem run : θ_run defs (onTc (τ := τ) (main (F := Ideal))) ⟨m, fun _ => 0, ρ⟩ (fun r => ∀ c : Dev nD,
      r.2.mem ((c : Thread nD τ).loc main_v3) = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨(((h.1 c).2 main_v3 (Pipeline.mem_restRefs_of main_v3 (by decide) (by decide))).trans (tail m c)).trans
      (shapeCast_flat _ _ _ _ _ _ _), h.2 c⟩) (θ_run_and (run_main m ρ) (unchanged m ρ))

end Cert.Proof.Run
-- ==== Proof.Reference.lean ====
/-
  Hand-written, untrusted. WHAT THE REFERENCE COMPUTES: its result array holds the same formula of its arguments.
-/
module

public import proofs.«01_k».proof.Proof.Spec
public import proofs.«01_k».proof.Proof.Gen.ReferenceIdeal.Run
public import Idealize.ShloMosaic.Lib.Pointwise

@[expose] public section

set_option maxRecDepth 16384

noncomputable section

namespace Cert.Proof.Reference

open Idealize.ShloMosaic Idealize.SL.Sem Cert.ReferenceIdeal Idealize.ShloMosaic.TcCoe
open Cert.Proof.Spec Cert.Proof.Codes

/-- A signed byte widened and converted is its value. -/
theorem signed (x : BitVec 8) : FloatOps.sitofp (F := Ideal) FTy.bf16 (BitVec.signExtend 32 x) = ((x.toInt : ℝ) : EReal) := by
  have h : ∀ x : BitVec 8, (x.signExtend 32).toInt = x.toInt := by decide +kernel
  show (((x.signExtend 32).toInt : ℝ) : EReal) = _
  rw [h]

/-- An unsigned byte widened and converted is its unsigned value. -/
theorem unsigned (x : BitVec 8) : FloatOps.sitofp (F := Ideal) FTy.bf16 (BitVec.setWidth 32 x) = ((x.toNat : ℝ) : EReal) := by
  show (((x.setWidth 32).toInt : ℝ) : EReal) = _
  rw [toInt_setWidth]

/-- The reference's code at position `k`: the masked byte where `k` is even, the shifted byte where it is odd. -/
theorem coded (x : BitVec 8) (k : Fin 4096) :
    FloatOps.sitofp (F := Ideal) FTy.bf16 (if h : k.val % 2 < 1 then IntOp.andi (BitVec.setWidth 32 x) 15#32
      else IntOp.shrsi ArithUnit.host (BitVec.setWidth 32 x) 4#32) = ((code x (k.val % 2) : ℝ) : EReal) := by
  split
  · rw [show k.val % 2 = 0 by omega]
    exact congrArg (fun v : ℝ => (v : EReal)) (toInt_mask x)
  · rw [show k.val % 2 = 1 by omega]
    exact congrArg (fun v : ℝ => (v : EReal)) (toInt_shift x)

variable (m : (ℓ : Loc nD τ sig) → Buf (Elt Ideal) ℓ) (ρ : Dev nD → PrngReg)

/-- The reference's program from any launch: the result, and the arguments unchanged. -/
theorem run : θ_run defs (onTc (τ := τ) (main (F := Ideal))) ⟨m, fun _ => 0, ρ⟩ (fun r => ∀ c : Dev nD,
      r.2.mem ((c : Thread nD τ).loc main_v31) = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  refine (θ_run defs _ _).mono (fun _ h c => ⟨(h c).1.trans ?_, (h c).2⟩) (Cert.ReferenceIdeal.Value.run m ρ)
  clear h
  generalize m ((c : Thread nD τ).loc main_arg0) = X
  generalize m ((c : Thread nD τ).loc main_arg1) = S
  generalize m ((c : Thread nD τ).loc main_arg2) = P
  generalize m ((c : Thread nD τ).loc main_arg3) = GS
  generalize m ((c : Thread nD τ).loc main_arg4) = GZ
  generalize m ((c : Thread nD τ).loc main_arg5) = C
  funext y
  obtain ⟨b, s, n, rfl⟩ : ∃ (b : Fin 8) (s : Fin 1536) (n : Fin 4608), y = (ix3 b s n : S8x1536x4608.Idx) :=
    ⟨y 0, y 1, y 2, funext fun a => by fin_cases a <;> rfl⟩
  pointwise
  show _ = value X S P GS GZ C b s n
  unfold value col weight
  refine congrArg₂ (· * ·) (congrArg₂ (· * ·) (Finset.sum_congr rfl fun k _ => ?_) rfl) rfl
  exact congrArg₂ (· * ·) (signed (X (ix3 b s k)))
    (congrArg₂ (· - ·) (congrArg₂ (· * ·) (coded (P (ix2 ⟨k.val / 2, by omega⟩ n)) k) (unsigned _)) (unsigned _))

end Cert.Proof.Reference
-- ==== Proof.lean ====
/-
  Hand-written, untrusted. THE CLAIM: the three frames, the idealization, and the equality over the ideal floats of what the
  kernel's program and the reference leave.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem

/-- The reference's program, a line of host operations, ends with its arguments unchanged and every counter at zero. -/
theorem frame_reference : quiescent_ReferenceIdeal (hReferenceIdeal := Cert.ReferenceIdeal.Gen.facts) := by
  intro m g _
  exact (θ_run _ _ _).mono (fun r h => ⟨fun c => (h c).2, sem_eq_zero_of_no_sems (by decide) r.2⟩) (Reference.run m g)

/-- Over the ideal floats the kernel's program and the reference leave the same result, from any launches that agree on the
    arguments: both leave the formula of Spec.lean. -/
theorem equal : algebraic_KernelIdeal_ReferenceIdeal (hKernelIdeal := Cert.KernelIdeal.Gen.facts)
    (hReferenceIdeal := Cert.ReferenceIdeal.Gen.facts) := by
  intro m g m' g' _ hagree
  refine ⟨_, Run.run m g, (θ_run _ _ _).mono (fun _ h c => ⟨(h c).1.trans ?_, (h c).2⟩) (Reference.run m' g')⟩
  obtain ⟨h0, h1, h2, h3, h4, h5⟩ := hagree c
  rw [h0, h1, h2, h3, h4, h5]

/-- Everything claimed. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial, equal⟩

end Cert.Proof

end
